-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_samples_finite [hPre_samples_finite : Cert.Pre_samples_finite.Facts] (m : (ℓ : Loc Cert.KernelIdeal.nD Cert.KernelIdeal.τ Cert.KernelIdeal.sig) → Buf (Elt Ideal) ℓ) : Prop :=
  ∀ c : Dev Cert.KernelIdeal.nD,
    (Cert.Pre_samples_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_samples_finite [hPre_samples_finite : Cert.Pre_samples_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_samples_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_samples_finite [hKernelIdeal : Cert.KernelIdeal.Facts] [hPre_samples_finite : Cert.Pre_samples_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_samples_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_samples_finite [hReferenceIdeal : Cert.ReferenceIdeal.Facts] [hPre_samples_finite : Cert.Pre_samples_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_samples_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_samples_finite [hKernelIdeal : Cert.KernelIdeal.Facts] [hReferenceIdeal : Cert.ReferenceIdeal.Facts] [hPre_samples_finite : Cert.Pre_samples_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_samples_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_samples_finite : Cert.Pre_samples_finite.Facts),
    quiescent_Kernel (hKernel := hKernel)
    ∧ quiescent_KernelIdeal (hKernelIdeal := hKernelIdeal)
    ∧ quiescent_KernelIdeal_pre_samples_finite (hKernelIdeal := hKernelIdeal) (hPre_samples_finite := hPre_samples_finite)
    ∧ quiescent_ReferenceIdeal (hReferenceIdeal := hReferenceIdeal)
    ∧ quiescent_ReferenceIdeal_pre_samples_finite (hReferenceIdeal := hReferenceIdeal) (hPre_samples_finite := hPre_samples_finite)
    ∧ preserves_Kernel_KernelIdeal
    ∧ algebraic_KernelIdeal_ReferenceIdeal_pre_samples_finite (hKernelIdeal := hKernelIdeal) (hReferenceIdeal := hReferenceIdeal) (hPre_samples_finite := hPre_samples_finite)
-- ==== Pre_samples_finite.lean ====
abbrev S320000x128 : Shape := ⟨2, ![320000, 128]⟩
abbrev S320000 : Shape := ⟨1, ![320000]⟩
abbrev S_ : Shape := ⟨0, ![]⟩

class Facts : Prop where
  bcast_S_S320000x128 : S_.BroadcastsInDim S320000x128 (![] : Fin 0 → Fin S320000x128.rank)

variable [Facts]

def fn {F : FTy → Type} [FloatOps F] (main_arg0 : FVec F S320000x128 .f32) (main_arg1 : IVec S320000 32) : IVec S320000x128 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  main_v2
-- ==== Kernel.lean ====
abbrev S320000x128 : Shape := ⟨2, ![320000, 128]⟩
abbrev S320000 : Shape := ⟨1, ![320000]⟩
abbrev S200x1x1600 : Shape := ⟨3, ![200, 1, 1600]⟩
abbrev S128x128 : Shape := ⟨2, ![128, 128]⟩
abbrev S128x1 : Shape := ⟨2, ![128, 1]⟩
abbrev S1x1x1600 : Shape := ⟨3, ![1, 1, 1600]⟩
abbrev S1600x128 : Shape := ⟨2, ![1600, 128]⟩
abbrev S1x1600 : Shape := ⟨2, ![1, 1600]⟩
abbrev S128x1600 : Shape := ⟨2, ![128, 1600]⟩
abbrev S128 : Shape := ⟨1, ![128]⟩
abbrev S1x1 : Shape := ⟨2, ![1, 1]⟩
abbrev S1x128x1 : Shape := ⟨3, ![1, 128, 1]⟩
abbrev S1 : Shape := ⟨1, ![1]⟩
abbrev S1x1x1 : Shape := ⟨3, ![1, 1, 1]⟩
abbrev S_ : Shape := ⟨0, ![]⟩

abbrev nBuf : Space → Nat
  | .hbm => 8
  | .vmem => 10
  | .smem => 1
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S200x1x1600, .i32⟩
  | .hbm, ⟨3, _⟩ => ⟨S128x128, .f32⟩
  | .hbm, ⟨4, _⟩ => ⟨S128x128, .f32⟩
  | .hbm, ⟨5, _⟩ => ⟨S128x1, .f32⟩
  | .hbm, ⟨6, _⟩ => ⟨S1x1, .f32⟩
  | .hbm, ⟨7, _⟩ => ⟨S_, .f32⟩
  | .local _ .vmem, ⟨0, _⟩ => ⟨S1x1x1600, .i32⟩
  | .local _ .vmem, ⟨1, _⟩ => ⟨S1x1x1600, .i32⟩
  | .local _ .vmem, ⟨2, _⟩ => ⟨S1600x128, .f32⟩
  | .local _ .vmem, ⟨3, _⟩ => ⟨S1600x128, .f32⟩
  | .local _ .vmem, ⟨4, _⟩ => ⟨S128x128, .f32⟩
  | .local _ .vmem, ⟨5, _⟩ => ⟨S128x128, .f32⟩
  | .local _ .vmem, ⟨6, _⟩ => ⟨S128x1, .f32⟩
  | .local _ .vmem, ⟨7, _⟩ => ⟨S128x128, .f32⟩
  | .local _ .vmem, ⟨8, _⟩ => ⟨S128x128, .f32⟩
  | .local _ .vmem, ⟨9, _⟩ => ⟨S128x1, .f32⟩
  | .local _ .smem, ⟨0, _⟩ => ⟨S1x1, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![200], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1600 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := .none

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S_ : Shape := ⟨0, ![]⟩
abbrev S128x128 : Shape := ⟨2, ![128, 128]⟩
abbrev S320000x1 : Shape := ⟨2, ![320000, 1]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S_, .f32⟩
  | .hbm, ⟨3, _⟩ => ⟨S128x128, .f32⟩
  | .hbm, ⟨4, _⟩ => ⟨S320000x1, .i32⟩
  | .hbm, ⟨5, _⟩ => ⟨S128x128, .f32⟩
  | .hbm, ⟨6, _⟩ => ⟨S_, .f32⟩
  | .hbm, ⟨7, _⟩ => ⟨S320000, .f32⟩
  | .hbm, ⟨8, _⟩ => ⟨S_, .f32⟩
  | .hbm, ⟨9, _⟩ => ⟨S128, .f32⟩
  | .hbm, ⟨10, _⟩ => ⟨S320000x1, .i32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S128x128, .f32⟩
  | .hbm, ⟨17, _⟩ => ⟨S128x128, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S1, .i32⟩
  | .hbm, ⟨27, _⟩ => ⟨S_, .i32⟩
  | .hbm, ⟨28, _⟩ => ⟨S320000x1, .i32⟩
  | .hbm, ⟨29, _⟩ => ⟨S320000x1, .i1⟩
  | .hbm, ⟨30, _⟩ => ⟨S1x1, .i32⟩
  | .hbm, ⟨31, _⟩ => ⟨S320000x1, .i32⟩
  | .hbm, ⟨32, _⟩ => ⟨S320000x1, .i1⟩
  | .hbm, ⟨33, _⟩ => ⟨S320000x1, .i1⟩
  | .hbm, ⟨34, _⟩ => ⟨S_, .i1⟩
  | .hbm, ⟨35, _⟩ => ⟨S320000, .i1⟩
  | .hbm, ⟨36, _⟩ => ⟨S320000x128, .f32⟩
  | .hbm, ⟨37, _⟩ => ⟨S320000x128, .i1⟩
  | .hbm, ⟨38, _⟩ => ⟨S_, .f32⟩
  | .hbm, ⟨39, _⟩ => ⟨S320000x128, .f32⟩
  | .hbm, ⟨40, _⟩ => ⟨S320000x128, .f32⟩
  | .hbm, ⟨41, _⟩ => ⟨S320000x128, .f32⟩
  | .hbm, ⟨42, _⟩ => ⟨S320000x128, .f32⟩
  | .hbm, ⟨43, _⟩ => ⟨S_, .f32⟩
  | .hbm, ⟨44, _⟩ => ⟨S320000, .f32⟩
  | .hbm, ⟨45, _⟩ => ⟨S_, .f32⟩
  | .hbm, ⟨46, _⟩ => ⟨S128, .f32⟩
  | .hbm, ⟨47, _⟩ => ⟨S320000x1, .i32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .i1⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .i1⟩
  | .hbm, ⟨63, _⟩ => ⟨S128, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_3 : Ref sig .tc := ⟨.hbm, 43, rfl⟩
abbrev main_v15 : Ref sig .tc := ⟨.hbm, 44, rfl⟩
abbrev main_cst_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_5 : Ref sig .tc := ⟨.hbm, 49, rfl⟩
abbrev main_v19 : Ref sig .tc := ⟨.hbm, 50, rfl⟩
abbrev main_v20 : Ref sig .tc := ⟨.hbm, 51, rfl⟩
abbrev main_cst_6 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_7 : Ref sig .tc := ⟨.hbm, 56, rfl⟩
abbrev main_call1_v0 : Ref sig .tc := ⟨.hbm, 57, rfl⟩
abbrev main_call1_v1 : Ref sig .tc := ⟨.hbm, 58, rfl⟩
abbrev main_v24 : Ref sig .tc := ⟨.hbm, 59, rfl⟩
abbrev main_cst_8 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_9 : Ref sig .tc := ⟨.hbm, 64, rfl⟩
abbrev main_v28 : Ref sig .tc := ⟨.hbm, 65, rfl⟩
abbrev main_cst_10 : Ref sig .tc := ⟨.hbm, 66, rfl⟩
abbrev main_v29 : Ref sig .tc := ⟨.hbm, 67, rfl⟩
abbrev main_v30 : Ref sig .tc := ⟨.hbm, 68, rfl⟩

abbrev nD : Nat := 1
abbrev τ : Topo := Topo.v7x

variable {F : FTy → Type} [FloatOps F]
-- ==== Proof.Wcss.Run.lean ====
/-
  The kernel's run with its result kept: the launch of @main over its two regions and two host stretches, read at the
  scalar result as well as at the two arguments.
-/
module

public import proofs.«01_k».proof.Proof.Gen.KernelIdeal.Frame

@[expose] public section

noncomputable section

namespace Cert.KernelIdeal.Wcss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with the statement
set_option backward.isDefEq.respectTransparency.types false in
/-- From any memory with zero counters every weakly fair execution of @main ends with the scalar result at what the
    last host stretch leaves there (`W4`), and with both arguments as launched. -/
theorem run_result : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ c =>
      ⟨h c _ (mem_uc main_v3 (by decide)),
       (h c _ (mem_uc main_arg0 (by decide))).trans (W4_main_arg0 m ρ c),
       (h c _ (mem_uc main_arg1 (by decide))).trans (W4_main_arg1 m ρ c)⟩)

end Cert.KernelIdeal.Wcss

end
-- ==== Proof.Wcss.Algebra.lean ====
/-
  The mathematics both programs compute, over labelled samples `x i d` of classes `0 .. K-1`, and the equation between
  them: the one-pass form of a class's spread (squares less the squared total over the count) is the two-pass form
  (squared distances from the class mean) when every sample is a real number.
-/
module

public import Idealize.ShloMosaic.PureOps.Ideal.Laws

@[expose] public section

noncomputable section

namespace Wcss

open Idealize.ShloMosaic

variable {ι : Type} [Fintype ι] {K D : ℕ}

/-- Sample `i` carries the label `k`: its word, read signed, is `k`. -/
abbrev Hit (y : ι → BitVec 32) (k : Fin K) (i : ι) : Prop := (y i).toInt = (k.val : ℤ)

/-- The sum of `g` over the samples of class `k`. -/
def tally (y : ι → BitVec 32) (g : ι → EReal) (k : Fin K) : EReal := ∑ i, if Hit y k i then g i else 0

/-- How many samples class `k` has. -/
def count (y : ι → BitVec 32) (k : Fin K) : EReal := tally y (fun _ => 1) k

/-- The divisor used for class `k`: its count, or one for a class without samples. -/
def safe (y : ι → BitVec 32) (k : Fin K) : EReal := max (count y k) 1

/-- The number of classes that have a sample. -/
def present (K : ℕ) (y : ι → BitVec 32) : EReal := ∑ k : Fin K, if 0 < count y k then 1 else 0

/-- A class's term in one pass: its squares less its squared totals over the count, over count and width. -/
def onePass (w : EReal) (y : ι → BitVec 32) (x : ι → Fin D → EReal) (k : Fin K) : EReal :=
  if 0 < count y k then
    Ideal.div ((∑ d, tally y (fun i => x i d * x i d) k)
      - Ideal.div (∑ d, tally y (fun i => x i d) k * tally y (fun i => x i d) k) (safe y k)) (safe y k * w)
  else 0

/-- A class's mean along `d`. -/
def mean (y : ι → BitVec 32) (x : ι → Fin D → EReal) (k : Fin K) (d : Fin D) : EReal :=
  Ideal.div (tally y (fun i => x i d) k) (safe y k)

/-- A class's term in two passes: its squared distances from the class mean, over count and width. -/
def twoPass (w : EReal) (y : ι → BitVec 32) (x : ι → Fin D → EReal) (k : Fin K) : EReal :=
  if 0 < count y k then
    Ideal.div (tally y (fun i => ∑ d, (x i d - mean y x k d) * (x i d - mean y x k d)) k) (safe y k * w)
  else 0

/-- A finite sum of real numbers, read as an extended real. -/
theorem coe_sum {α : Type} (s : Finset α) (f : α → ℝ) : ((∑ a ∈ s, f a : ℝ) : EReal) = ∑ a ∈ s, (f a : EReal) := by
  classical
  induction s using Finset.induction_on with
  | empty => simp
  | insert a s h ih => rw [Finset.sum_insert h, Finset.sum_insert h, EReal.coe_add, ih]

/-- A class sum of real numbers is the real sum over the class. -/
theorem tally_coe (y : ι → BitVec 32) (f : ι → ℝ) (k : Fin K) :
    tally y (fun i => (f i : EReal)) k = ((∑ i with Hit y k i, f i : ℝ) : EReal) := by
  rw [Finset.sum_filter, coe_sum]
  exact Finset.sum_congr rfl fun i _ => by split <;> simp

/-- The count is the number of samples of the class. -/
theorem count_coe (y : ι → BitVec 32) (k : Fin K) :
    count y k = (((Finset.univ.filter (Hit y k)).card : ℝ) : EReal) := by
  have h := tally_coe y (fun _ => (1 : ℝ)) k
  rw [Finset.sum_const, nsmul_one] at h
  exact h

/-- Over a set with at least one element, the squared distances from the mean sum to the squares less the squared
    total over the number of elements. -/
theorem spread {α : Type} (s : Finset α) (hs : (s.card : ℝ) ≠ 0) (r : α → ℝ) :
    ∑ i ∈ s, (r i - (∑ j ∈ s, r j) / s.card) * (r i - (∑ j ∈ s, r j) / s.card)
      = ∑ i ∈ s, r i * r i - (∑ j ∈ s, r j) * (∑ j ∈ s, r j) / s.card := by
  generalize hS : (∑ j ∈ s, r j) = S
  have e : ∀ i ∈ s, (r i - S / s.card) * (r i - S / s.card)
      = r i * r i - 2 * (S / s.card) * r i + (S / s.card) * (S / s.card) := fun i _ => by ring
  rw [Finset.sum_congr rfl e, Finset.sum_add_distrib, Finset.sum_sub_distrib, ← Finset.mul_sum, hS, Finset.sum_const,
    nsmul_eq_mul]
  field_simp
  ring

/-- The quotient of two real numbers, the divisor not zero. -/
theorem div_real (a b : ℝ) (h : b ≠ 0) : Ideal.div (a : EReal) (b : EReal) = ((a / b : ℝ) : EReal) := by
  rw [Ideal.div_coe h, ← EReal.coe_mul, mul_one_div]

/-- The two forms of a class's term agree on real samples. -/
theorem onePass_eq_twoPass (w : EReal) (y : ι → BitVec 32) (x : ι → Fin D → EReal)
    (hx : ∀ i d, ∃ r : ℝ, x i d = r) (k : Fin K) : onePass w y x k = twoPass w y x k := by
  choose r hr using hx
  obtain rfl : x = fun i d => (r i d : EReal) := funext fun i => funext fun d => hr i d
  unfold onePass twoPass
  split
  next hc =>
    have hn : (0 : ℝ) < ((Finset.univ.filter (Hit y k)).card : ℝ) := by
      rw [count_coe] at hc; exact_mod_cast hc
    have h1 : (1 : ℝ) ≤ ((Finset.univ.filter (Hit y k)).card : ℝ) := by
      have : 0 < (Finset.univ.filter (Hit y k)).card := by exact_mod_cast hn
      exact_mod_cast this
    have hsafe : safe y k = (((Finset.univ.filter (Hit y k)).card : ℝ) : EReal) := by
      unfold safe
      rw [count_coe]
      exact max_eq_left (by exact_mod_cast h1)
    refine congrArg (fun a => Ideal.div a (safe y k * w)) ?_
    simp only [mean, hsafe, ← EReal.coe_mul, tally_coe, ← coe_sum, div_real _ _ hn.ne', ← EReal.coe_sub]
    refine congrArg ((↑) : ℝ → EReal) ?_
    symm
    rw [Finset.sum_comm, Finset.sum_congr rfl fun d _ => spread _ hn.ne' fun i => r i d, Finset.sum_sub_distrib,
      Finset.sum_div]
  next => rfl

end Wcss

end
-- ==== Proof.Wcss.Prefix.lean ====
/-
  A class's tally over the samples in blocks of 1600: the sum over the first blocks, and how it grows by one block.
-/
module

public import proofs.«01_k».proof.Proof.Wcss.Algebra

@[expose] public section

noncomputable section

namespace Wcss

open Idealize.ShloMosaic

variable {K : ℕ}

/-- The sum of `g` over the samples of class `k` among the first `n` blocks of 1600 samples. -/
def upto (y : Fin 320000 → BitVec 32) (g : Fin 320000 → EReal) (k : Fin K) (n : ℕ) : EReal :=
  ∑ j ∈ Finset.range (1600 * n), if h : j < 320000 then (if Hit y k ⟨j, h⟩ then g ⟨j, h⟩ else 0) else 0

/-- No block, no sum. -/
theorem upto_zero (y : Fin 320000 → BitVec 32) (g : Fin 320000 → EReal) (k : Fin K) : upto y g k 0 = 0 := by
  simp [upto]

/-- One more block adds its own samples of the class. -/
theorem upto_succ (y : Fin 320000 → BitVec 32) (g : Fin 320000 → EReal) (k : Fin K) (n : ℕ) (hn : n < 200) :
    upto y g k (n + 1) = upto y g k n
      + ∑ b : Fin 1600, if Hit y k ⟨1600 * n + b.val, by omega⟩ then g ⟨1600 * n + b.val, by omega⟩ else 0 := by
  unfold upto
  rw [Nat.mul_succ, Finset.sum_range_add, Finset.sum_range (n := 1600)]
  refine congrArg (_ + ·) (Finset.sum_congr rfl fun b _ => ?_)
  exact dif_pos (by omega)

/-- All two hundred blocks are all the samples. -/
theorem upto_all (y : Fin 320000 → BitVec 32) (g : Fin 320000 → EReal) (k : Fin K) : upto y g k 200 = tally y g k := by
  unfold upto tally
  rw [Finset.sum_range]
  exact Finset.sum_congr rfl fun j _ => dif_pos j.isLt

end Wcss
-- ==== Proof.Wcss.Block.lean ====
/-
  What one grid point of the first kernel adds: the one-hot block of its labels, and the three values it stores read at an
  index over any blocks — the class's samples of the block, their squares, and how many they are, on top of what was there.
-/
module

public import proofs.«01_k».proof.Proof.Gen.KernelIdeal.Skeleton
public import Idealize.ShloMosaic.PureOps.Ideal.Laws
public import Idealize.ShloMosaic.Lib.Pipeline.Value
public import Idealize.ShloMosaic.Lib.MatmulPlain
public import Idealize.ShloMosaic.Lib.ValueIdxCore
public import Idealize.ShloMosaic.Lib.WordCmp

@[expose] public section

noncomputable section

namespace Cert.KernelIdeal.Wcss

open Idealize.ShloMosaic Idealize.ShloMosaic.ValueIdx
open Cert.KernelIdeal Cert.KernelIdeal.Gen

/-- A class number below 128 is the word `w` exactly when `w`, read signed, is that number. -/
theorem word_eq_iff (k : Fin 128) (w : BitVec 32) : BitVec.ofNat 32 k.val = w ↔ w.toInt = (k.val : ℤ) := by
  have hk : (BitVec.ofNat 32 k.val).toInt = (k.val : ℤ) := WordCmp.toInt_ofNat_of_lt (by have := k.isLt; omega)
  constructor
  · rintro rfl
    exact hk
  · intro h
    exact BitVec.eq_of_toInt_eq (hk.trans h.symm)

/-- The one-hot block at class `k`, sample `b`: one where the sample's label is `k`, else zero. -/
theorem onehot_apply (y : Vec Ideal S1x1x1600 .i32) (k : Fin 128) (b : Fin 1600) :
    (k0_pay4 y : FVec Ideal S128x1600 .f32) (ix2 k b) = if (y (ix3 0 0 b)).toInt = (k.val : ℤ) then 1 else 0 := by
  have hbc : broadcastTo S128x1600 (shapeCast S1x1600 y shapeCasts_S1x1x1600_S1x1600) broadcasts_S1x1600_S128x1600 (ix2 k b)
      = y (ix3 0 0 b) := by
    refine (broadcastTo_apply _ _ _ (ix2 0 b) fun a => match a with | ⟨0, _⟩ => rfl | ⟨1, _⟩ => rfl).trans ?_
    refine (shapeCast_dropUnit_apply _ _ _ _).trans (congrArg y ?_)
    funext a
    match a with | ⟨0, _⟩ => rfl | ⟨1, _⟩ => rfl | ⟨2, _⟩ => rfl
  show (((IntOp.cmpi .eq (iota .tc S128x1600 32 [0] iota_S128x1600_d0_w32 (ix2 k b))
    (broadcastTo S128x1600 (shapeCast S1x1600 y shapeCasts_S1x1x1600_S1x1600) broadcasts_S1x1600_S128x1600 (ix2 k b))).setWidth 32).toInt : ℝ) = (_ : EReal)
  rw [hbc, iota_single_apply, WordCmp.cmpi_eq_eq]
  by_cases h : (y (ix3 0 0 b)).toInt = (k.val : ℤ)
  · rw [if_pos h, decide_eq_true ((word_eq_iff k _).2 h)]
    simp
  · rw [if_neg h, decide_eq_false fun e => h ((word_eq_iff k _).1 e)]
    simp

/-- The class totals: the block adds its samples of the class. -/
theorem sums_apply (x : Vec Ideal S1600x128 .f32) (y : Vec Ideal S1x1x1600 .i32) (s : Vec Ideal S128x128 .f32) (k d : Fin 128) :
    (k0_pay5 x y s : FVec Ideal S128x128 .f32) (ix2 k d)
      = s (ix2 k d) + ∑ b : Fin 1600, if (y (ix3 0 0 b)).toInt = (k.val : ℤ) then x (ix2 b d) else 0 := by
  show shapeCast S128x128 s shapeCasts_S128x128_S128x128 (ix2 k d)
    + FloatOps.matmul (DotDims.plain 128 1600 128) none (k0_pay4 y) x (constant S128x128 .f32 0x00000000#32) (ix2 k d) = _
  rw [shapeCast_self, Ideal.matmul_plain_apply]
  refine congrArg (s (ix2 k d) + ·) ?_
  refine (congrArg (· + _) (Ideal.ofBits_zero_f32)).trans ((zero_add _).trans (Finset.sum_congr rfl fun b _ => ?_))
  rw [onehot_apply, ite_mul, one_mul, zero_mul]

/-- The class totals of squares: the block adds the squares of its samples of the class. -/
theorem squares_apply (x : Vec Ideal S1600x128 .f32) (y : Vec Ideal S1x1x1600 .i32) (s : Vec Ideal S128x128 .f32) (k d : Fin 128) :
    (k0_pay6 x y s : FVec Ideal S128x128 .f32) (ix2 k d)
      = s (ix2 k d) + ∑ b : Fin 1600, if (y (ix3 0 0 b)).toInt = (k.val : ℤ) then x (ix2 b d) * x (ix2 b d) else 0 := by
  show shapeCast S128x128 s shapeCasts_S128x128_S128x128 (ix2 k d)
    + FloatOps.matmul (DotDims.plain 128 1600 128) none (k0_pay4 y) (mulf x x) (constant S128x128 .f32 0x00000000#32) (ix2 k d) = _
  rw [shapeCast_self, Ideal.matmul_plain_apply]
  refine congrArg (s (ix2 k d) + ·) ?_
  refine (congrArg (· + _) (Ideal.ofBits_zero_f32)).trans ((zero_add _).trans (Finset.sum_congr rfl fun b _ => ?_))
  rw [onehot_apply, ite_mul, one_mul, zero_mul]
  rfl

/-- The class counts: the block adds how many of its samples are of the class. -/
theorem counts_apply (y : Vec Ideal S1x1x1600 .i32) (s : Vec Ideal S128x1 .f32) (k : Fin 128) :
    (k0_pay7 y s : FVec Ideal S128x1 .f32) (ix2 k 0)
      = s (ix2 k 0) + ∑ b : Fin 1600, if (y (ix3 0 0 b)).toInt = (k.val : ℤ) then 1 else 0 := by
  show shapeCast S128x1 s shapeCasts_S128x1_S128x1 (ix2 k 0)
    + shapeCast S128x1 (multiReduction .add [1] S128 (k0_pay4 y) 0x00000000#32 reduces_S128x1600_S128 (.inl rfl) rfl)
        shapeCasts_S128_S128x1 (ix2 k 0) = _
  rw [shapeCast_self]
  refine congrArg (s (ix2 k 0) + ·) ?_
  refine (shapeCast_apply _ _ _ (ix1 k) ?_).trans ?_
  · rw [Shape.rowMajor_val_one, Shape.rowMajor_val_two]
    show k.val = k.val * 1 + 0
    omega
  · refine (Ideal.multiReduction_add_single _ _ _ _ _ _).trans (Finset.sum_congr rfl fun b _ => ?_)
    refine (congrArg _ ?_).trans (onehot_apply y k b)
    funext a
    match a with | ⟨0, _⟩ => rfl | ⟨1, _⟩ => rfl

/-- The first point starts the totals from zero. -/
theorem sums_start : (k0_pay1 : FVec Ideal S128x128 .f32) = fun _ => 0 := funext fun _ => Ideal.ofBits_zero_f32
/-- The first point starts the squares from zero. -/
theorem squares_start : (k0_pay2 : FVec Ideal S128x128 .f32) = fun _ => 0 := funext fun _ => Ideal.ofBits_zero_f32
/-- The first point starts the counts from zero. -/
theorem counts_start : (k0_pay3 : FVec Ideal S128x1 .f32) = fun _ => 0 := funext fun _ => Ideal.ofBits_zero_f32

end Cert.KernelIdeal.Wcss
-- ==== Proof.Wcss.Stored.lean ====
/-
  What the first kernel leaves in its three output blocks at one grid point, from what its runs stored: each block is the
  stored value over the point's labels and samples, on top of zero at the first point and of the block's contents later.
-/
module

public import proofs.«01_k».proof.Proof.Gen.KernelIdeal.Frame
public import Idealize.ShloMosaic.Lib.Pipeline.Value
public import Idealize.ShloMosaic.Lib.Tactic

@[expose] public section

noncomputable section

namespace Cert.KernelIdeal.Wcss

open Idealize.ShloMosaic Idealize.ShloMosaic.TcCoe
open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

section Case

variable (c : Dev nD) (i : grid0.Coords)
  (a1 : Memref sig .tc .vmem S1x1x1600 .i32) (h1 : a1.IsWhole) (a2 : Memref sig .tc .vmem S1600x128 .f32) (h2 : a2.IsWhole)
  (a3 : Memref sig .tc .vmem S128x128 .f32) (h3 : a3.IsWhole) (a4 : Memref sig .tc .vmem S128x128 .f32) (h4 : a4.IsWhole)
  (a5 : Memref sig .tc .vmem S128x1 .f32) (h5 : a5.IsWhole)
  (y : Vec F S1x1x1600 .i32) (x : Vec F S1600x128 .f32)

/-- A later point's totals: the stored value over the totals the block held. -/
theorem sums_later (hc : ¬cond0_0 i) (s q : Vec F S128x128 .f32) (n : Vec F S128x1 .f32) :
    out0_B_2 c i a1 h1 a2 h2 a3 h3 a4 h4 a5 h5 hc y x s q n = k0_pay5 x y s := by
  unfold out0_B_2
  rw [View.read_writes_eq_canon _ _ _ (cover0_B_2 c i a1 h1 a2 h2 a3 h3 a4 h4 a5 h5 hc y x s q n)]
  unfold kernelRun0_B
  dsimp only
  rw [View.canon_unit_zero off2]
  simp only [View.readAt_eq_ld, h1.read_unread, h2.read_unread, h3.read_unread, View.ld_unit_zero (S := S1x1x1600) off3,
    View.ld_unit_zero (S := S1600x128) off2, View.ld_unit_zero (S := S128x128) off2]

/-- A later point's squares. -/
theorem squares_later (hc : ¬cond0_0 i) (s q : Vec F S128x128 .f32) (n : Vec F S128x1 .f32) :
    out0_B_3 c i a1 h1 a2 h2 a3 h3 a4 h4 a5 h5 hc y x s q n = k0_pay6 x y q := by
  unfold out0_B_3
  rw [View.read_writes_eq_canon _ _ _ (cover0_B_3 c i a1 h1 a2 h2 a3 h3 a4 h4 a5 h5 hc y x s q n)]
  unfold kernelRun0_B
  dsimp only
  rw [View.canon_unit_zero off2]
  simp only [View.readAt_eq_ld, h1.read_unread, h2.read_unread, h4.read_unread, View.ld_unit_zero (S := S1x1x1600) off3,
    View.ld_unit_zero (S := S1600x128) off2, View.ld_unit_zero (S := S128x128) off2]

/-- A later point's counts. -/
theorem counts_later (hc : ¬cond0_0 i) (s q : Vec F S128x128 .f32) (n : Vec F S128x1 .f32) :
    out0_B_4 c i a1 h1 a2 h2 a3 h3 a4 h4 a5 h5 hc y x s q n = k0_pay7 y n := by
  unfold out0_B_4
  rw [View.read_writes_eq_canon _ _ _ (cover0_B_4 c i a1 h1 a2 h2 a3 h3 a4 h4 a5 h5 hc y x s q n)]
  unfold kernelRun0_B
  dsimp only
  rw [View.canon_unit_zero off2]
  simp only [View.readAt_eq_ld, h1.read_unread, h5.read_unread, View.ld_unit_zero (S := S1x1x1600) off3,
    View.ld_unit_zero (S := S128x1) off2]

/-- The first point's totals: the stored value over the zero block it has just written. -/
theorem sums_first (hc : cond0_0 i) : out0_A_2 c i a1 h1 a2 h2 a3 h3 a4 h4 a5 h5 hc y x = k0_pay5 x y k0_pay1 := by
  unfold out0_A_2
  rw [View.read_writes_eq_canon _ _ _ (cover0_A_2 c i a1 h1 a2 h2 a3 h3 a4 h4 a5 h5 hc y x)]
  unfold kernelRun0_A
  dsimp only
  sl_unfold_words
  rw [View.canon_cons_unit_zero (S := S128x128) off2, View.readCov_unit_zero (S := S128x128) _ off2]
  simp only [View.readAt_eq_ld, h1.read_unread, h2.read_unread, View.ld_unit_zero (S := S1x1x1600) off3,
    View.ld_unit_zero (S := S1600x128) off2]

/-- The first point's squares. -/
theorem squares_first (hc : cond0_0 i) : out0_A_3 c i a1 h1 a2 h2 a3 h3 a4 h4 a5 h5 hc y x = k0_pay6 x y k0_pay2 := by
  unfold out0_A_3
  rw [View.read_writes_eq_canon _ _ _ (cover0_A_3 c i a1 h1 a2 h2 a3 h3 a4 h4 a5 h5 hc y x)]
  unfold kernelRun0_A
  dsimp only
  sl_unfold_words
  rw [View.canon_cons_unit_zero (S := S128x128) off2, View.readCov_unit_zero (S := S128x128) _ off2]
  simp only [View.readAt_eq_ld, h1.read_unread, h2.read_unread, View.ld_unit_zero (S := S1x1x1600) off3,
    View.ld_unit_zero (S := S1600x128) off2]

/-- The first point's counts. -/
theorem counts_first (hc : cond0_0 i) : out0_A_4 c i a1 h1 a2 h2 a3 h3 a4 h4 a5 h5 hc y x = k0_pay7 y k0_pay3 := by
  unfold out0_A_4
  rw [View.read_writes_eq_canon _ _ _ (cover0_A_4 c i a1 h1 a2 h2 a3 h3 a4 h4 a5 h5 hc y x)]
  unfold kernelRun0_A
  dsimp only
  sl_unfold_words
  rw [View.canon_cons_unit_zero (S := S128x1) off2, View.readCov_unit_zero (S := S128x1) _ off2]
  simp only [View.readAt_eq_ld, h1.read_unread, View.ld_unit_zero (S := S1x1x1600) off3]

end Case

/-- The second kernel's one cell: the stored quotient over its three arrays. -/
theorem quotient_stored (c : Dev nD) (a0 : Memref sig .tc .vmem S128x128 .f32) (h0 : a0.IsWhole)
    (a1 : Memref sig .tc .vmem S128x128 .f32) (h1 : a1.IsWhole) (a2 : Memref sig .tc .vmem S128x1 .f32) (h2 : a2.IsWhole)
    (a3 : Memref sig .tc .smem S1x1 .f32) (h3 : a3.IsWhole) (s q : Vec F S128x128 .f32) (n : Vec F S128x1 .f32) :
    out1_A_3 c a0 h0 a1 h1 a2 h2 a3 h3 s q n = fun _ => k1_pay1 s q n := by
  unfold out1_A_3
  rw [View.read_writes_eq_canon _ _ _ (cover1_A_3 c a0 h0 a1 h1 a2 h2 a3 h3 s q n)]
  unfold kernelRun1_A
  dsimp only
  rw [View.canon_unit_zero off2]
  simp only [View.readAt_eq_ld, h0.read_unread, h1.read_unread, h2.read_unread, View.ld_unit_zero (S := S128x128) off2,
    View.ld_unit_zero (S := S128x1) off2]
  rfl

end Cert.KernelIdeal.Wcss
-- ==== Proof.Wcss.Arrays.lean ====
/-
  What the first kernel's three arrays hold: after each grid point the sums over the samples read so far, by induction on
  the point, and after the last one, whose write-back covers each array, the sums over all the samples.
-/
module

public import proofs.«01_k».proof.Proof.Wcss.Prefix
public import proofs.«01_k».proof.Proof.Wcss.Block
public import proofs.«01_k».proof.Proof.Wcss.Stored
public import Idealize.ShloMosaic.Lib.StableHlo.Run

@[expose] public section

noncomputable section

namespace Cert.KernelIdeal.Wcss

open Idealize.ShloMosaic Idealize.ShloMosaic.TcCoe Idealize.ShloMosaic.ValueIdx Idealize.SL.Sem
open Idealize.ShloMosaic.Pipeline (Dat)
open Cert.KernelIdeal Cert.KernelIdeal.Gen
open _root_.Wcss

variable (m : (ℓ : Loc nD τ sig) → Buf (Elt Ideal) ℓ) (ρ : Dev nD → PrngReg)

/-- Core `c`'s labels, sample by sample. -/
def label (c : Dev nD) (i : Fin 320000) : BitVec 32 := (m ((c : Thread nD τ).loc main_arg1) : Vec Ideal S320000 .i32) (ix1 i)
/-- Core `c`'s samples, coordinate by coordinate. -/
def sample (c : Dev nD) (i : Fin 320000) (d : Fin 128) : EReal :=
  (m ((c : Thread nD τ).loc main_arg0) : Vec Ideal S320000x128 .f32) (ix2 i d)

/-- The labels as the first kernel finds them: cut in rows of 1600. -/
theorem V1_labels (c : Dev nD) : (V1 m ρ c main_v0 : Vec Ideal S200x1x1600 .i32)
    = shapeCast S200x1x1600 (m ((c : Thread nD τ).loc main_arg1) : Vec Ideal S320000 .i32) shapeCasts_S320000_S200x1x1600 := by
  show StableHlo.after hostOps0 _ (Proc.devRef .tc main_v0) = _
  after_results
  rfl

/-- Point `t` is block `t` along the samples. -/
theorem index_labels (t : Fin cfg0.N) : win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0) t
theorem index_samples (t : Fin cfg0.N) : win0_1.index t 0 = t.val ∧ win0_1.index t 1 = 0 :=
  (by decide +kernel : ∀ t : Fin grid0.N, win0_1.index t 0 = t.val ∧ win0_1.index t 1 = 0) t

theorem point_lt (t : Fin cfg0.N) : t.val < 200 := lt_of_lt_of_eq t.isLt (show cfg0.N = 200 from N_0)

/-- Label `b` of point `t`'s block is label `1600 t + b`. -/
theorem block_label (c : Dev nD) (t : Fin cfg0.N) (b : Fin 1600) :
    (iblk0 (V1 m ρ) c 0 t : Vec Ideal S1x1x1600 .i32) (ix3 0 0 b)
      = label m c ⟨1600 * t.val + b.val, by have := point_lt t; omega⟩ := by
  have ht := point_lt t
  obtain ⟨i0, i1, i2⟩ := index_labels t
  have hread : (iblk0 (V1 m ρ) c 0 t : Vec Ideal S1x1x1600 .i32) (ix3 0 0 b)
      = (V1 m ρ c main_v0 : Vec Ideal S200x1x1600 .i32) (ix3 ⟨t.val, ht⟩ 0 b) := by
    unfold iblk0
    rw [View.read_apply]
    show V1 m ρ c main_v0 _ = _
    congr 1
    funext a
    apply Fin.ext
    match a with
    | ⟨0, _⟩ => show win0_0.index t 0 * 1 + 1 * 0 = t.val; omega
    | ⟨1, _⟩ => show win0_0.index t 1 * 1 + 1 * 0 = 0; omega
    | ⟨2, _⟩ => show win0_0.index t 2 * 1600 + 1 * b.val = b.val; omega
  rw [hread, V1_labels]
  refine shapeCast_apply _ _ _ (ix1 _) ?_
  rw [Shape.rowMajor_val_one, Shape.rowMajor_val_three]
  show 1600 * t.val + b.val = (t.val * 1 + 0) * 1600 + b.val
  omega

/-- Sample `b` of point `t`'s block is sample `1600 t + b`. -/
theorem block_sample (c : Dev nD) (t : Fin cfg0.N) (b : Fin 1600) (d : Fin 128) :
    (iblk0 (V1 m ρ) c 1 t : Vec Ideal S1600x128 .f32) (ix2 b d)
      = sample m c ⟨1600 * t.val + b.val, by have := point_lt t; omega⟩ d := by
  have ht := point_lt t
  obtain ⟨i0, i1⟩ := index_samples t
  have hV : (V1 m ρ c main_arg0 : Vec Ideal S320000x128 .f32) = m ((c : Thread nD τ).loc main_arg0) :=
    W1_args m ρ c main_arg0 (by decide)
  unfold iblk0 sample
  rw [View.read_apply, ← hV]
  show V1 m ρ c main_arg0 _ = _
  congr 1
  funext a
  apply Fin.ext
  match a with
  | ⟨0, _⟩ => show win0_1.index t 0 * 1600 + 1 * b.val = 1600 * t.val + b.val; omega
  | ⟨1, _⟩ => show win0_1.index t 1 * 128 + 1 * d.val = d.val; omega

/-- The three running arrays agree with the sums over the first `n` blocks. -/
def Holds (c : Dev nD) (n : ℕ) (o : Vec Ideal S128x128 .f32 × Vec Ideal S128x128 .f32 × Vec Ideal S128x1 .f32) : Prop :=
  (∀ k d : Fin 128, o.1 (ix2 k d) = upto (label m c) (fun i => sample m c i d) k n)
  ∧ (∀ k d : Fin 128, o.2.1 (ix2 k d) = upto (label m c) (fun i => sample m c i d * sample m c i d) k n)
  ∧ (∀ k : Fin 128, o.2.2 (ix2 k 0) = upto (label m c) (fun _ => 1) k n)

/-- One point's stores carry the sums from the blocks before it to the blocks up to it. -/
theorem Holds.step {c : Dev nD} {t : Fin cfg0.N} {s q : Vec Ideal S128x128 .f32} {n : Vec Ideal S128x1 .f32}
    (h : Holds m c t.val (s, q, n)) :
    Holds m c (t.val + 1) (k0_pay5 (iblk0 (V1 m ρ) c 1 t) (iblk0 (V1 m ρ) c 0 t) s,
      k0_pay6 (iblk0 (V1 m ρ) c 1 t) (iblk0 (V1 m ρ) c 0 t) q, k0_pay7 (iblk0 (V1 m ρ) c 0 t) n) := by
  obtain ⟨hs, hq, hn⟩ := h
  have ht := point_lt t
  refine ⟨fun k d => ?_, fun k d => ?_, fun k => ?_⟩
  · refine (sums_apply _ _ _ _ _).trans ?_
    rw [upto_succ _ _ _ _ ht, ← hs]
    refine congrArg (_ + ·) (Finset.sum_congr rfl fun b _ => ?_)
    rw [block_label, block_sample]
  · refine (squares_apply _ _ _ _ _).trans ?_
    rw [upto_succ _ _ _ _ ht, ← hq]
    refine congrArg (_ + ·) (Finset.sum_congr rfl fun b _ => ?_)
    rw [block_label, block_sample]
  · refine (counts_apply _ _ _).trans ?_
    rw [upto_succ _ _ _ _ ht, ← hn]
    refine congrArg (_ + ·) (Finset.sum_congr rfl fun b _ => ?_)
    rw [block_label]

/-- The zero arrays are the sums over no block. -/
theorem Holds.start (c : Dev nD) : Holds m c 0 (k0_pay1 (F := Ideal), k0_pay2 (F := Ideal), k0_pay3 (F := Ideal)) := by
  refine ⟨fun k d => ?_, fun k d => ?_, fun k => ?_⟩
  · rw [upto_zero]; exact congrFun sums_start (ix2 k d)
  · rw [upto_zero]; exact congrFun squares_start (ix2 k d)
  · rw [upto_zero]; exact congrFun counts_start (ix2 k 0)

/-- After point `n` the output blocks hold the sums over blocks `0 .. n`. -/
theorem holds_outs (c : Dev nD) : ∀ (n : ℕ) (h : n < cfg0.N), Holds m c (n + 1) (outsAt0 (V1 m ρ) c n h)
  | 0, h => by
    have e := outsAt0_A (V1 m ρ) c ⟨0, h⟩ rfl
    rw [sums_first, squares_first, counts_first] at e
    rw [show outsAt0 (V1 m ρ) c 0 h = _ from e]
    exact Holds.step m ρ (t := ⟨0, h⟩) (Holds.start m c)
  | n + 1, h => by
    have hn : n + 1 < 200 := point_lt ⟨n + 1, h⟩
    have e := outsAt0_B (V1 m ρ) c ⟨n + 1, h⟩ (by show ¬(n + 1) % 200 = 0; omega)
    rw [sums_later, squares_later, counts_later] at e
    rw [show outsAt0 (V1 m ρ) c (n + 1) h = _ from e]
    exact Holds.step m ρ (t := ⟨n + 1, h⟩) (holds_outs c n _)

/-- The last point. -/
abbrev last0 : Fin cfg0.N := ⟨199, by rw [show cfg0.N = 200 from N_0]; decide⟩

theorem last_of_flush {t : Fin cfg0.N} (h : t.val % 200 = 199) : t = last0 :=
  Fin.ext (by have := point_lt t; show t.val = 199; omega)

theorem index_sums (a : Fin 2) : win0_2.index last0 a = 0 := by fin_cases a <;> decide
theorem index_squares (a : Fin 2) : win0_3.index last0 a = 0 := by fin_cases a <;> decide
theorem index_counts (a : Fin 2) : win0_4.index last0 a = 0 := by fin_cases a <;> decide

/-- The totals array ends holding what the last point left. -/
theorem sums_array (c : Dev nD) (G : Vec Ideal S128x128 .f32) (hG : (dat0 (V1 m ρ) c).after 2 last0 = G) :
    (dat0 (V1 m ρ) c).arrAt 2 cfg0.N = (G : Buf (Elt Ideal) ((c : Thread nD τ).loc main_v1_0)) := by
  refine (dat0 (V1 m ρ) c).arrAt_eq_of_cover 2 _ (fun t hf => ?_) fun i => ⟨last0, (flush0_2 last0).mpr rfl, ?_⟩
  · obtain rfl := last_of_flush ((flush0_2 t).mp hf)
    show (cfg0.win 2).cut (grid0.coords last0) ((dat0 (V1 m ρ) c).after 2 last0) = _
    rw [hG]
    have hz : (fun a => win0_2.index last0 a * main_v1_0.ty.shape.size a) = fun _ => 0 :=
      funext fun a => by rw [index_sums a, Nat.zero_mul]
    exact (Memref.read_access_unit_zero (Elt Ideal) main_v1_0 hz (fun a => by rw [congrFun hz a]; simp) _).symm
  · show i ∈ ((View.whole main_v1_0).slice (win0_2.rect last0)).set
    rw [View.set_slice_whole, Rect.mem_set_unit]
    intro a
    have hi : (i a : ℕ) < S128x128.size a := (i a).isLt
    show win0_2.index last0 a * win0_2.size a ≤ (i a : ℕ) ∧ (i a : ℕ) < win0_2.index last0 a * win0_2.size a + S128x128.size a
    rw [index_sums a]
    omega

/-- The squares array ends holding what the last point left. -/
theorem squares_array (c : Dev nD) (G : Vec Ideal S128x128 .f32) (hG : (dat0 (V1 m ρ) c).after 3 last0 = G) :
    (dat0 (V1 m ρ) c).arrAt 3 cfg0.N = (G : Buf (Elt Ideal) ((c : Thread nD τ).loc main_v1_1)) := by
  refine (dat0 (V1 m ρ) c).arrAt_eq_of_cover 3 _ (fun t hf => ?_) fun i => ⟨last0, (flush0_3 last0).mpr rfl, ?_⟩
  · obtain rfl := last_of_flush ((flush0_3 t).mp hf)
    show (cfg0.win 3).cut (grid0.coords last0) ((dat0 (V1 m ρ) c).after 3 last0) = _
    rw [hG]
    have hz : (fun a => win0_3.index last0 a * main_v1_1.ty.shape.size a) = fun _ => 0 :=
      funext fun a => by rw [index_squares a, Nat.zero_mul]
    exact (Memref.read_access_unit_zero (Elt Ideal) main_v1_1 hz (fun a => by rw [congrFun hz a]; simp) _).symm
  · show i ∈ ((View.whole main_v1_1).slice (win0_3.rect last0)).set
    rw [View.set_slice_whole, Rect.mem_set_unit]
    intro a
    have hi : (i a : ℕ) < S128x128.size a := (i a).isLt
    show win0_3.index last0 a * win0_3.size a ≤ (i a : ℕ) ∧ (i a : ℕ) < win0_3.index last0 a * win0_3.size a + S128x128.size a
    rw [index_squares a]
    omega

/-- The counts array ends holding what the last point left. -/
theorem counts_array (c : Dev nD) (G : Vec Ideal S128x1 .f32) (hG : (dat0 (V1 m ρ) c).after 4 last0 = G) :
    (dat0 (V1 m ρ) c).arrAt 4 cfg0.N = (G : Buf (Elt Ideal) ((c : Thread nD τ).loc main_v1_2)) := by
  refine (dat0 (V1 m ρ) c).arrAt_eq_of_cover 4 _ (fun t hf => ?_) fun i => ⟨last0, (flush0_4 last0).mpr rfl, ?_⟩
  · obtain rfl := last_of_flush ((flush0_4 t).mp hf)
    show (cfg0.win 4).cut (grid0.coords last0) ((dat0 (V1 m ρ) c).after 4 last0) = _
    rw [hG]
    have hz : (fun a => win0_4.index last0 a * main_v1_2.ty.shape.size a) = fun _ => 0 :=
      funext fun a => by rw [index_counts a, Nat.zero_mul]
    exact (Memref.read_access_unit_zero (Elt Ideal) main_v1_2 hz (fun a => by rw [congrFun hz a]; simp) _).symm
  · show i ∈ ((View.whole main_v1_2).slice (win0_4.rect last0)).set
    rw [View.set_slice_whole, Rect.mem_set_unit]
    intro a
    have hi : (i a : ℕ) < S128x1.size a := (i a).isLt
    show win0_4.index last0 a * win0_4.size a ≤ (i a : ℕ) ∧ (i a : ℕ) < win0_4.index last0 a * win0_4.size a + S128x1.size a
    rw [index_counts a]
    omega

/-- What the last point leaves in the three blocks. -/
theorem holds_last (c : Dev nD) : ∃ o, outsAt0 (V1 m ρ) c last0.val last0.isLt = o ∧ Holds m c 200 o :=
  ⟨_, rfl, holds_outs m ρ c last0.val last0.isLt⟩

/-- The totals array after the first kernel: each class's samples, summed. -/
theorem W2_sums (c : Dev nD) (k d : Fin 128) : (V2 m ρ c main_v1_0 : Vec Ideal S128x128 .f32) (ix2 k d)
    = tally (label m c) (fun i => sample m c i d) k := by
  obtain ⟨o, ho, h⟩ := holds_last m ρ c
  rw [← upto_all, ← h.1]
  exact congrFun ((W2_arr m ρ c 2).trans (sums_array m ρ c o.1 ((after0_2 _ c last0).trans (congrArg (·.1) ho)))) (ix2 k d)

/-- The squares array: each class's squared samples, summed. -/
theorem W2_squares (c : Dev nD) (k d : Fin 128) : (V2 m ρ c main_v1_1 : Vec Ideal S128x128 .f32) (ix2 k d)
    = tally (label m c) (fun i => sample m c i d * sample m c i d) k := by
  obtain ⟨o, ho, h⟩ := holds_last m ρ c
  rw [← upto_all, ← h.2.1]
  exact congrFun ((W2_arr m ρ c 3).trans (squares_array m ρ c o.2.1 ((after0_3 _ c last0).trans (congrArg (·.2.1) ho)))) (ix2 k d)

/-- The counts array: how many samples each class has. -/
theorem W2_counts (c : Dev nD) (k : Fin 128) : (V2 m ρ c main_v1_2 : Vec Ideal S128x1 .f32) (ix2 k 0)
    = Wcss.count (label m c) k := by
  obtain ⟨o, ho, h⟩ := holds_last m ρ c
  unfold Wcss.count
  rw [← upto_all, ← h.2.2]
  exact congrFun ((W2_arr m ρ c 4).trans (counts_array m ρ c o.2.2 ((after0_4 _ c last0).trans (congrArg (·.2.2) ho)))) (ix2 k 0)

end Cert.KernelIdeal.Wcss
-- ==== Proof.Wcss.Quotient.lean ====
/-
  What the second kernel stores, over any totals, squares and counts: the sum of the classes' one-pass terms over the
  number of classes with a sample, read off its printed operations.
-/
module

public import proofs.«01_k».proof.Proof.Gen.KernelIdeal.Skeleton
public import Idealize.ShloMosaic.PureOps.Ideal.Laws
public import Idealize.ShloMosaic.Lib.Pipeline.Value
public import Idealize.ShloMosaic.Lib.ValueIdxCore
public import Idealize.ShloMosaic.Lib.IdealHost

@[expose] public section

noncomputable section

namespace Cert.KernelIdeal.Wcss

open Idealize.ShloMosaic Idealize.ShloMosaic.ValueIdx
open Cert.KernelIdeal Cert.KernelIdeal.Gen

/-- The width's pattern denotes 128. -/
theorem width_bits : Ideal.ofBits .f32 0x43000000#32 = (128 : EReal) := by
  simp [Ideal.ofBits, Ideal.ieee, -EReal.coe_mul]; norm_num; rfl

/-- A row total, kept as a column, at class `k`. -/
theorem row_total (v : FVec Ideal S128x128 .f32) (k : Fin 128) :
    shapeCast S128x1 (multiReduction .add [1] S128 v 0x00000000#32 reduces_S128x128_S128 (.inl rfl) rfl : FVec Ideal S128 .f32)
      shapeCasts_S128_S128x1 (ix2 k 0) = ∑ d : Fin 128, v (ix2 k d) := by
  refine (shapeCast_apply _ _ _ (ix1 k) ?_).trans ?_
  · rw [Shape.rowMajor_val_one, Shape.rowMajor_val_two]
    show k.val = k.val * 1 + 0
    omega
  · refine (Ideal.multiReduction_add_single _ _ _ _ _ _).trans (Finset.sum_congr rfl fun d _ => congrArg v ?_)
    funext a
    match a with | ⟨0, _⟩ => rfl | ⟨1, _⟩ => rfl

/-- A column's grand total. -/
theorem column_total (v : FVec Ideal S128x1 .f32) :
    extractAt ![0, 0, 0] (shapeCast S1x1x1 (multiReduction .add [1, 2] S1 (shapeCast S1x128x1 v shapeCasts_S128x1_S1x128x1)
      0x00000000#32 reduces_S1x128x1_S1 (.inl rfl) rfl : FVec Ideal S1 .f32) shapeCasts_S1_S1x1x1) inpos_S1x1x1_p0_0_0
      = ∑ k : Fin 128, v (ix2 k 0) := by
  unfold extractAt
  refine (shapeCast_apply _ _ _ (ix1 0) ?_).trans ?_
  · rw [Shape.rowMajor_val_one, Shape.rowMajor_val_three]
    rfl
  · refine (Ideal.multiReduction_add_total _ _ _ (fun b => by match b with | ⟨0, _⟩ => rfl) _ _ _).trans ?_
    refine (Equiv.sum_comp (Shape.reshapeEquiv _) v).trans ((sum_idx2 v).trans ?_)
    exact Finset.sum_congr rfl fun k _ => Fin.sum_univ_one _

/-- A decided bit, widened and read as a float, is one or zero. -/
theorem bit_value (p : Prop) [Decidable p] :
    ((((BitVec.ofBool (decide p)).setWidth 32).toInt : ℝ) : EReal) = if p then 1 else 0 := by
  by_cases h : p <;> simp [h]

/-- A select on a decided bit is the choice. -/
theorem bit_choice {α : Type} (p : Prop) [Decidable p] (a b : α) :
    Scalar.select (BitVec.ofBool (decide p)) a b = if p then a else b := by
  by_cases h : p <;> simp [h, Scalar.select]

/-- The stored quotient. -/
theorem quotient_apply (s q : Vec Ideal S128x128 .f32) (n : Vec Ideal S128x1 .f32) :
    k1_pay1 (F := Ideal) s q n
      = Ideal.div
          (∑ k : Fin 128, if 0 < n (ix2 k 0) then
            Ideal.div ((∑ d : Fin 128, q (ix2 k d)) - Ideal.div (∑ d : Fin 128, s (ix2 k d) * s (ix2 k d)) (max (n (ix2 k 0)) 1))
              (max (n (ix2 k 0)) 1 * 128)
            else 0)
          (∑ k : Fin 128, if 0 < n (ix2 k 0) then 1 else 0) := by
  unfold k1_pay1
  dsimp only
  rw [column_total, column_total]
  simp only [shapeCast_self]
  refine congrArg₂ Ideal.div (Finset.sum_congr rfl fun k _ => ?_) (Finset.sum_congr rfl fun k _ => ?_)
  · rw [select_apply, cmpf_apply]
    show Scalar.select (BitVec.ofBool (decide (Ideal.ofBits .f32 0x00000000#32 < n (ix2 k 0))))
      (Ideal.div (shapeCast S128x1 _ _ (ix2 k 0) - Ideal.div (shapeCast S128x1 _ _ (ix2 k 0)) (max (n (ix2 k 0)) (Ideal.ofBits .f32 0x3F800000#32)))
        (max (n (ix2 k 0)) (Ideal.ofBits .f32 0x3F800000#32) * Ideal.ofBits .f32 0x43000000#32))
      (Ideal.ofBits .f32 0x00000000#32) = _
    rw [bit_choice, row_total, row_total, Ideal.ofBits_zero_f32, Ideal.ofBits_one_f32, width_bits]
    rfl
  · show ((((BitVec.ofBool (decide (Ideal.ofBits .f32 0x00000000#32 < n (ix2 k 0)))).setWidth 32).toInt : ℝ) : EReal) = _
    rw [bit_value, Ideal.ofBits_zero_f32]

end Cert.KernelIdeal.Wcss
-- ==== Proof.Wcss.Finish.lean ====
/-
  The kernel's result: the second kernel reads the three arrays whole and writes one cell, and the scalar result is that
  cell — the sum of the classes' one-pass terms over the number of classes with a sample.
-/
module

public import proofs.«01_k».proof.Proof.Wcss.Arrays
public import proofs.«01_k».proof.Proof.Wcss.Quotient

@[expose] public section

noncomputable section

namespace Cert.KernelIdeal.Wcss

open Idealize.ShloMosaic Idealize.ShloMosaic.TcCoe Idealize.ShloMosaic.ValueIdx Idealize.SL.Sem
open Idealize.ShloMosaic.Pipeline (Dat)
open Cert.KernelIdeal Cert.KernelIdeal.Gen
open _root_.Wcss

variable (m : (ℓ : Loc nD τ sig) → Buf (Elt Ideal) ℓ) (ρ : Dev nD → PrngReg)

/-- The second kernel's one point. -/
abbrev only1 : Fin cfg1.N := ⟨0, by rw [show cfg1.N = 1 from N_1]; decide⟩

theorem only_point (t : Fin cfg1.N) : t = only1 :=
  Fin.ext (by have h := lt_of_lt_of_eq t.isLt (show cfg1.N = 1 from N_1); show t.val = 0; omega)

/-- It reads the totals whole, -/
theorem whole_sums (c : Dev nD) : (iblk1 (V2 m ρ) c 0 only1 : Vec Ideal S128x128 .f32) = V2 m ρ c main_v1_0 := by
  have hz : (fun a => win1_0.index only1 a * main_v1_0.ty.shape.size a) = fun _ => 0 := funext fun a => by fin_cases a <;> decide
  exact Memref.read_access_unit_zero (Elt Ideal) main_v1_0 hz (fun a => by rw [congrFun hz a]; simp) _
/-- the squares whole, -/
theorem whole_squares (c : Dev nD) : (iblk1 (V2 m ρ) c 1 only1 : Vec Ideal S128x128 .f32) = V2 m ρ c main_v1_1 := by
  have hz : (fun a => win1_1.index only1 a * main_v1_1.ty.shape.size a) = fun _ => 0 := funext fun a => by fin_cases a <;> decide
  exact Memref.read_access_unit_zero (Elt Ideal) main_v1_1 hz (fun a => by rw [congrFun hz a]; simp) _
/-- and the counts whole. -/
theorem whole_counts (c : Dev nD) : (iblk1 (V2 m ρ) c 2 only1 : Vec Ideal S128x1 .f32) = V2 m ρ c main_v1_2 := by
  have hz : (fun a => win1_2.index only1 a * main_v1_2.ty.shape.size a) = fun _ => 0 := funext fun a => by fin_cases a <;> decide
  exact Memref.read_access_unit_zero (Elt Ideal) main_v1_2 hz (fun a => by rw [congrFun hz a]; simp) _

/-- The kernel's mathematics over core `c`'s arguments. -/
def loss (c : Dev nD) : EReal :=
  Ideal.div (∑ k : Fin 128, onePass 128 (label m c) (sample m c) k) (present 128 (label m c))

/-- Over the class totals, squares and counts the stored quotient is the loss. -/
theorem quotient_loss (c : Dev nD) (s q : Vec Ideal S128x128 .f32) (n : Vec Ideal S128x1 .f32)
    (hs : ∀ k d : Fin 128, s (ix2 k d) = tally (label m c) (fun i => sample m c i d) k)
    (hq : ∀ k d : Fin 128, q (ix2 k d) = tally (label m c) (fun i => sample m c i d * sample m c i d) k)
    (hn : ∀ k : Fin 128, n (ix2 k 0) = Wcss.count (label m c) k) : k1_pay1 (F := Ideal) s q n = loss m c := by
  rw [quotient_apply]
  simp only [hs, hq, hn]
  rfl

/-- What the second kernel stores is the loss. -/
theorem stored_loss (c : Dev nD) : (outsAt1 (V2 m ρ) c only1 : Vec Ideal S1x1 .f32) = fun _ => loss m c := by
  unfold outsAt1
  rw [quotient_stored, whole_sums, whole_squares, whole_counts]
  funext _
  exact quotient_loss m c _ _ _ (W2_sums m ρ c) (W2_squares m ρ c) (W2_counts m ρ c)

/-- The cell array ends holding the loss. -/
theorem cell_array (c : Dev nD) :
    (dat1 (V2 m ρ) c).arrAt 3 cfg1.N = ((fun _ => loss m c : Vec Ideal S1x1 .f32) : Buf (Elt Ideal) ((c : Thread nD τ).loc main_v2)) := by
  have hi : ∀ a : Fin 2, win1_3.index only1 a = 0 := fun a => by fin_cases a <;> decide
  refine (dat1 (V2 m ρ) c).arrAt_eq_of_cover 3 _ (fun t _ => ?_) fun i => ⟨only1, flush1_3 only1, ?_⟩
  · obtain rfl := only_point t
    show (cfg1.win 3).cut (grid1.coords only1) ((dat1 (V2 m ρ) c).after 3 only1) = _
    rw [after1_3, stored_loss]
    have hz : (fun a => win1_3.index only1 a * main_v2.ty.shape.size a) = fun _ => 0 :=
      funext fun a => by rw [hi a, Nat.zero_mul]
    exact (Memref.read_access_unit_zero (Elt Ideal) main_v2 hz (fun a => by rw [congrFun hz a]; simp) _).symm
  · show i ∈ ((View.whole main_v2).slice (win1_3.rect only1)).set
    rw [View.set_slice_whole, Rect.mem_set_unit]
    intro a
    have h1 : (i a : ℕ) < S1x1.size a := (i a).isLt
    show win1_3.index only1 a * win1_3.size a ≤ (i a : ℕ) ∧ (i a : ℕ) < win1_3.index only1 a * win1_3.size a + S1x1.size a
    rw [hi a]
    omega

/-- The scalar result is the loss. -/
theorem result_loss (c : Dev nD) : W4 m ρ c (Proc.devRef .tc main_v3) = (fun _ => loss m c : Vec Ideal S_ .f32) := by
  have h : (W3 m ρ c (Proc.devRef .tc main_v2) : Vec Ideal S1x1 .f32) = fun _ => loss m c :=
    (W3_arr m ρ c 3).trans (cell_array m ρ c)
  have e : (W4 m ρ c (Proc.devRef .tc main_v3) : Vec Ideal S_ .f32)
      = shapeCast S_ (W3 m ρ c (Proc.devRef .tc main_v2) : Vec Ideal S1x1 .f32) shapeCasts_S1x1_S_ := by
    show StableHlo.after hostOps2 _ (Proc.devRef .tc main_v3) = _
    after_results
    rfl
  rw [e, h]
  rfl

end Cert.KernelIdeal.Wcss
-- ==== Proof.Wcss.Segments.lean ====
/-
  How the reference's indexed operations read: a sum over segments at a class, and a row taken by a label.
-/
module

public import proofs.«01_k».proof.ReferenceIdeal
public import proofs.«01_k».proof.Proof.Gen.ReferenceIdeal
public import proofs.«01_k».proof.Proof.Wcss.Algebra
public import Idealize.ShloMosaic.Lib.Routing.OpsPair
public import Idealize.ShloMosaic.Lib.ValueIdxCore
public import Idealize.ShloMosaic.Lib.ReduceAll

@[expose] public section

noncomputable section

namespace Cert.ReferenceIdeal.Wcss

open Idealize.ShloMosaic Idealize.ShloMosaic.ValueIdx
open Cert.ReferenceIdeal Cert.ReferenceIdeal.Gen
open _root_.Wcss

/-- Where a scalar's update starts: at its label. -/
theorem scalar_start (idx : IVec S320000x1 32) (i : Fin 320000) :
    scatter_S128_S320000x1_S320000_n_0_0_1.start (ix1 i) idx 0 = (idx (ix2 i 0)).toInt := by
  unfold ScatterDims.start
  rw [dif_pos (show (0 : Fin 1) ∈ scatter_S128_S320000x1_S320000_n_0_0_1.scatterDimsToOperandDims from List.mem_singleton.mpr rfl)]
  congr 2
  funext b
  match b with
  | ⟨0, _⟩ => rfl
  | ⟨1, _⟩ => rfl

/-- A scalar's update has no window. -/
theorem scalar_window (i : Fin 320000) : scatter_S128_S320000x1_S320000_n_0_0_1.window (ix1 i) 0 = 0 := by
  unfold ScatterDims.window
  exact dif_neg fun h => (of_decide_eq_true (List.mem_filter.1 h).2) (List.mem_singleton.mpr rfl)

/-- Where a row's update starts: at its label, and at the first column. -/
theorem row_start (idx : IVec S320000x1 32) (i : Fin 320000) (d : Fin 128) :
    scatter_S128x128_S320000x1_S320000x128_1_0_0_1.start (ix2 i d) idx 0 = (idx (ix2 i 0)).toInt
      ∧ scatter_S128x128_S320000x1_S320000x128_1_0_0_1.start (ix2 i d) idx 1 = 0 := by
  constructor
  · unfold ScatterDims.start
    rw [dif_pos (show (0 : Fin 2) ∈ scatter_S128x128_S320000x1_S320000x128_1_0_0_1.scatterDimsToOperandDims from List.mem_singleton.mpr rfl)]
    congr 2
    funext b
    match b with
    | ⟨0, _⟩ => rfl
    | ⟨1, _⟩ => rfl
  · unfold ScatterDims.start
    exact dif_neg (by decide)

/-- A row's update is a window along the columns. -/
theorem row_window (i : Fin 320000) (d : Fin 128) :
    scatter_S128x128_S320000x1_S320000x128_1_0_0_1.window (ix2 i d) 0 = 0
      ∧ scatter_S128x128_S320000x1_S320000x128_1_0_0_1.window (ix2 i d) 1 = d.val := by
  constructor
  · unfold ScatterDims.window
    exact dif_neg fun h => (of_decide_eq_true (List.mem_filter.1 h).2) (List.mem_singleton.mpr rfl)
  · unfold ScatterDims.window
    rw [dif_pos (by decide)]
    rfl

/-- A sum over the positions of a vector, by coordinate. -/
theorem sum_positions {n : ℕ} (f : (⟨1, ![n]⟩ : Shape).Idx → EReal) : ∑ j, f j = ∑ i : Fin n, f (ix1 i) :=
  Fintype.sum_equiv ⟨fun j => j 0, fun i => ix1 i, fun j => (eq_ix1 j).symm, fun _ => rfl⟩ _ _ fun j => congrArg f (eq_ix1 j)

/-- A segment sum of scalars at class `k`. -/
theorem scalar_segment (a : FVec Ideal S128 .f32) (idx : IVec S320000x1 32) (u : FVec Ideal S320000 .f32) (k : Fin 128) :
    Host.scatterAdd (F := Ideal) scatter_S128_S320000x1_S320000_n_0_0_1 a idx u (ix1 k)
      = a (ix1 k) + tally (fun i : Fin 320000 => idx (ix2 i 0)) (fun i => u (ix1 i)) k := by
  show a (ix1 k) + ∑ j ∈ Finset.univ.filter (fun j => scatter_S128_S320000x1_S320000_n_0_0_1.resultIdx? j idx = some (ix1 k)), u j = _
  rw [Finset.sum_filter]
  refine congrArg (a (ix1 k) + ·) ((sum_positions _).trans (Finset.sum_congr rfl fun i _ => ?_))
  refine if_congr ((Routing.resultIdx?_ix1 _ _ _ _).trans ?_) rfl rfl
  rw [scalar_window, scalar_start, Nat.cast_zero, add_zero]

/-- A segment sum of rows at class `k`, column `d`. -/
theorem row_segment (a : FVec Ideal S128x128 .f32) (idx : IVec S320000x1 32) (u : FVec Ideal S320000x128 .f32) (k d : Fin 128) :
    Host.scatterAdd (F := Ideal) scatter_S128x128_S320000x1_S320000x128_1_0_0_1 a idx u (ix2 k d)
      = a (ix2 k d) + tally (fun i : Fin 320000 => idx (ix2 i 0)) (fun i => u (ix2 i d)) k := by
  show a (ix2 k d) + ∑ j ∈ Finset.univ.filter (fun j => scatter_S128x128_S320000x1_S320000x128_1_0_0_1.resultIdx? j idx = some (ix2 k d)), u j = _
  rw [Finset.sum_filter]
  refine congrArg (a (ix2 k d) + ·) ((sum_idx2 _).trans (Finset.sum_congr rfl fun i _ => ?_))
  have h : ∀ e : Fin 128, (scatter_S128x128_S320000x1_S320000x128_1_0_0_1.resultIdx? (ix2 i e) idx = some (ix2 k d))
      ↔ (idx (ix2 i 0)).toInt = (k.val : ℤ) ∧ d = e := by
    intro e
    refine (Routing.resultIdx?_ix2 _ _ _ _ _).trans ?_
    rw [(row_window i e).1, (row_window i e).2, (row_start idx i e).1, (row_start idx i e).2, Nat.cast_zero, add_zero, zero_add]
    exact and_congr_right fun _ => by rw [Fin.ext_iff]; omega
  rw [Finset.sum_congr rfl fun e _ => if_congr (h e) rfl rfl]
  by_cases hk : (idx (ix2 i 0)).toInt = (k.val : ℤ) <;> simp [hk]

/-- A row taken by a word that names row `k` is row `k`. -/
theorem take_row (a : FVec Ideal S128x128 .f32) (idx : IVec S320000x1 32) (i : Fin 320000) (k d : Fin 128)
    (hk : (idx (ix2 i 0)).toInt = (k.val : ℤ)) :
    Host.gather gather_S128x128_S320000x1_S320000x128_1_0_n_n_0_1_1128 a idx (ix2 i d) = a (ix2 k d) := by
  unfold Host.gather
  congr 1
  funext b
  refine Fin.ext ?_
  show gather_S128x128_S320000x1_S320000x128_1_0_n_n_0_1_1128.start (ix2 i d) idx b
      + gather_S128x128_S320000x1_S320000x128_1_0_n_n_0_1_1128.batchCoord (ix2 i d) b
      + gather_S128x128_S320000x1_S320000x128_1_0_n_n_0_1_1128.offCoord (ix2 i d) b = _
  rw [GatherDims.batchCoord_eq_zero _ _ _ List.not_mem_nil]
  have h01 : b = (0 : Fin 2) ∨ b = (1 : Fin 2) := by
    match b with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S128x128_S320000x1_S320000x128_1_0_n_n_0_1_1128.startIndexMap from List.mem_singleton.mpr rfl)]
    have hsi : gather_S128x128_S320000x1_S320000x128_1_0_n_n_0_1_1128.siIdx (ix2 i d)
        ⟨List.idxOf (0 : Fin 2) gather_S128x128_S320000x1_S320000x128_1_0_n_n_0_1_1128.startIndexMap,
          List.idxOf_lt_length_iff.2 (List.mem_singleton.mpr rfl)⟩ = ix2 i 0 := by
      funext b
      match b with
      | ⟨0, _⟩ => rfl
      | ⟨1, _⟩ => rfl
    rw [hsi, hk]
    show min (k.val : ℤ).toNat (128 - 1) = k.val
    have := k.isLt
    omega
  · unfold GatherDims.start
    rw [dif_neg (by decide)]
    unfold GatherDims.offCoord
    rw [dif_pos (by decide)]
    show 0 + 0 + d.val = d.val
    omega

/-- The conjunction of a column's bits along its unit axis is one when the bit at `i` is one. -/
theorem unit_all (x : S320000x1.Idx → BitVec 1) (e : S_.Idx → BitVec 1) (he : ∀ j, e j = 1#1) (i : Fin 320000)
    (hx : x (ix2 i 0) = 1#1) : Host.reduce IntOp.andi x e reducesTo_S320000x1_S320000_d1 h_S_ (ix1 i) = 1#1 := by
  rw [Host.reduce_eq_foldl]
  refine IntOp.foldl_andi_one x _ _ (he _) fun j hj => ?_
  have hd := of_decide_eq_true (List.mem_filter.1 hj).2
  have h0 : j 0 = i := (congrFun hd 0 : _)
  rw [show j = ix2 i 0 from (eq_ix2 j).trans (by rw [h0]; exact congrArg (ix2 i) (Subsingleton.elim (α := Fin 1) _ _))]
  exact hx

end Cert.ReferenceIdeal.Wcss
-- ==== Proof.Wcss.Reference.lean ====
/-
  What the reference computes: the class sums, counts and means, each labelled sample's squared distance from its
  class mean, and the sum of the classes' two-pass terms over the number of classes with a sample.
-/
module

public import proofs.«01_k».proof.Proof.Gen.ReferenceIdeal.Read
public import proofs.«01_k».proof.Proof.Wcss.Segments
public import proofs.«01_k».proof.Proof.Wcss.Quotient
public import Idealize.ShloMosaic.Lib.WordCmp
public import Idealize.ShloMosaic.Lib.IdealHost

@[expose] public section

noncomputable section

namespace Cert.ReferenceIdeal.Wcss

open Idealize.ShloMosaic Idealize.ShloMosaic.ValueIdx
open Cert.ReferenceIdeal Cert.ReferenceIdeal.Gen Cert.ReferenceIdeal.Read
open _root_.Wcss

variable (X : (⟨S320000x128, .f32⟩ : BufTy).Contents (Elt Ideal)) (L : (⟨S320000, .i32⟩ : BufTy).Contents (Elt Ideal))

/-- The labels, by sample. -/
abbrev lab (i : Fin 320000) : BitVec 32 := L (ix1 i)
/-- The samples, by sample and feature. -/
abbrev smp (i : Fin 320000) (d : Fin 128) : EReal := X (ix2 i d)

/-- The labels kept as a column. -/
theorem label_column (i : Fin 320000) : val_main_v1 (F := Ideal) L (ix2 i 0) = lab L i :=
  (val_main_v1_apply L _).trans (congrArg L (eq_ix1 _))

/-- The class sums. -/
theorem class_sum (k d : Fin 128) : val_main_v2 (F := Ideal) X L (ix2 k d) = tally (lab L) (fun i => smp X i d) k := by
  unfold val_main_v2
  refine (row_segment _ _ _ k d).trans ?_
  rw [val_main_v0_apply, val_main_cst_apply]
  show Ideal.ofBits .f32 0x00000000#32 + _ = _
  rw [Ideal.ofBits_zero_f32, zero_add]
  simp only [label_column]

/-- The class counts. -/
theorem class_count (k : Fin 128) : val_main_v6 (F := Ideal) L (ix1 k) = _root_.Wcss.count (lab L) k := by
  unfold val_main_v6
  refine (scalar_segment _ _ _ k).trans ?_
  rw [val_main_v4_apply, val_main_cst_1_apply]
  show Ideal.ofBits .f32 0x00000000#32 + _ = _
  rw [Ideal.ofBits_zero_f32, zero_add]
  have h : ∀ i : Fin 320000, val_main_v3 (F := Ideal) (ix1 i) = (1 : EReal) := fun i => by
    rw [val_main_v3_apply, val_main_cst_0_apply]
    exact Ideal.ofBits_one_f32
  have h' : ∀ i : Fin 320000, val_main_v5 (F := Ideal) L (ix2 i 0) = lab L i := label_column L
  simp only [h, h']
  rfl

/-- The counts no smaller than one. -/
theorem class_safe (k : Fin 128) : val_main_v8 (F := Ideal) L (ix1 k) = safe (lab L) k := by
  rw [val_main_v8_apply, class_count, val_main_v7_apply, val_main_cst_2_apply]
  show max _ (Ideal.ofBits .f32 0x3F800000#32) = _
  rw [Ideal.ofBits_one_f32]
  rfl

/-- The class means. -/
theorem class_mean (k d : Fin 128) : val_main_v11 (F := Ideal) X L (ix2 k d) = mean (lab L) (smp X) k d := by
  rw [val_main_v11_apply, class_sum, val_main_v10_apply, val_main_v9_apply]
  refine congrArg (Ideal.div _) (Eq.trans (congrArg (val_main_v8 (F := Ideal) L) (eq_ix1 _)) (class_safe L k))

/-- A label that names a class is not moved. -/
theorem named (i : Fin 320000) (k : Fin 128) (h : Hit (lab L) k i) : val_main_call0_v4 (F := Ideal) L (ix1 i) = lab L i := by
  rw [val_main_call0_v4_apply, val_main_call0_v1_apply, val_main_call0_v0_apply, val_main_call0_c_apply, WordCmp.cmpi_slt_eq,
    Cert.KernelIdeal.Wcss.bit_choice]
  refine if_neg ?_
  have h' : (L (ix1 i)).toInt = (k.val : ℤ) := h
  rw [h']
  simp

/-- A sample of class `k` is given the mean of class `k`. -/
theorem taken_mean (i : Fin 320000) (k d : Fin 128) (h : Hit (lab L) k i) :
    val_main_v12 (F := Ideal) X L (ix2 i d) = mean (lab L) (smp X) k d := by
  have h5 : val_main_call0_v5 (F := Ideal) L (ix2 i 0) = lab L i := by
    rw [val_main_call0_v5_apply]
    exact (congrArg _ (eq_ix1 _)).trans (named L i k h)
  have h' : (lab L i).toInt = (k.val : ℤ) := h
  have h7 : val_main_call0_v7 (F := Ideal) L (ix2 i 0) = 1#1 := by
    rw [val_main_call0_v7_apply, h5, val_main_call0_v6_apply, val_main_call0_c_2_apply, WordCmp.cmpi_sge_eq,
      WordCmp.ofBool_decide_eq_one_iff, h']
    simp
  have h10 : val_main_call0_v10 (F := Ideal) L (ix2 i 0) = 1#1 := by
    rw [val_main_call0_v10_apply, h5, val_main_call0_v9_apply, val_main_call0_v8_apply, val_main_call0_c_1_apply, WordCmp.cmpi_sle_eq,
      WordCmp.ofBool_decide_eq_one_iff, h']
    have := k.isLt
    show (k.val : ℤ) ≤ 127
    omega
  have h12 : val_main_call0_v12 (F := Ideal) L (ix1 i) = 1#1 := by
    unfold val_main_call0_v12
    refine unit_all _ _ (fun _ => rfl) i ?_
    rw [val_main_call0_v11_apply, h7, h10]
    rfl
  have h14 : val_main_call0_v14 (F := Ideal) L (ix2 i d) = 1#1 := by
    rw [val_main_call0_v14_apply]
    exact (congrArg _ (eq_ix1 _)).trans h12
  rw [val_main_v12_apply, h14]
  show val_main_call0_v13 (F := Ideal) X L (ix2 i d) = _
  unfold val_main_call0_v13
  rw [take_row _ _ i k d (by rw [h5]; exact h'), class_mean]

/-- The squared distance of a sample of class `k` from its class mean. -/
theorem distance (i : Fin 320000) (k : Fin 128) (h : Hit (lab L) k i) :
    val_main_v15 (F := Ideal) X L (ix1 i)
      = ∑ d, (smp X i d - mean (lab L) (smp X) k d) * (smp X i d - mean (lab L) (smp X) k d) := by
  rw [val_main_v15_apply, val_main_cst_3_apply]
  show Ideal.ofBits .f32 0x00000000#32 + _ = _
  rw [Ideal.ofBits_zero_f32, zero_add]
  refine Finset.sum_congr rfl fun d _ => ?_
  rw [show idx_main_v15 (ix1 i) d = ix2 i d from (eq_ix2 _), val_main_v14_apply, val_main_v13_apply, taken_mean X L i k d h]
  rfl

/-- The spread of class `k`. -/
theorem class_spread (k : Fin 128) : val_main_v18 (F := Ideal) X L (ix1 k)
    = tally (lab L) (fun i => ∑ d, (smp X i d - mean (lab L) (smp X) k d) * (smp X i d - mean (lab L) (smp X) k d)) k := by
  unfold val_main_v18
  refine (scalar_segment _ _ _ k).trans ?_
  rw [val_main_v16_apply, val_main_cst_4_apply]
  show Ideal.ofBits .f32 0x00000000#32 + _ = _
  rw [Ideal.ofBits_zero_f32, zero_add]
  have h' : ∀ i : Fin 320000, val_main_v17 (F := Ideal) L (ix2 i 0) = lab L i := label_column L
  simp only [h']
  exact Finset.sum_congr rfl fun i _ => ite_congr rfl (fun h => distance X L i k h) (fun _ => rfl)

/-- The term of class `k`. -/
theorem class_term (k : Fin 128) : val_main_v24 (F := Ideal) X L (ix1 k) = twoPass 128 (lab L) (smp X) k := by
  rw [val_main_v24_apply, val_main_v20_apply, val_main_v23_apply, val_main_v22_apply, class_count, class_spread, class_safe,
    val_main_v19_apply, val_main_cst_5_apply, val_main_v21_apply, val_main_cst_6_apply, val_main_call1_v1_apply,
    val_main_call1_v0_apply, val_main_cst_7_apply]
  unfold twoPass
  generalize _root_.Wcss.count (lab L) k = n
  generalize safe (lab L) k = z
  generalize tally (lab L) _ k = t
  show Scalar.select (BitVec.ofBool (decide (Ideal.ofBits .f32 0x00000000#32 < n)))
    (Ideal.div t (z * Ideal.ofBits .f32 0x43000000#32)) (Ideal.ofBits .f32 0x00000000#32) = _
  rw [Cert.KernelIdeal.Wcss.bit_choice, Ideal.ofBits_zero_f32, Cert.KernelIdeal.Wcss.width_bits]

/-- Whether class `k` has a sample, as a number. -/
theorem class_present (k : Fin 128) :
    val_main_v27 (F := Ideal) L (ix1 k) = if 0 < _root_.Wcss.count (lab L) k then 1 else 0 := by
  rw [val_main_v27_apply, val_main_v26_apply, class_count, val_main_v25_apply, val_main_cst_8_apply]
  generalize _root_.Wcss.count (lab L) k = n
  show ((((BitVec.ofBool (decide (Ideal.ofBits .f32 0x00000000#32 < n))).toNat : ℝ)) : EReal) = _
  rw [Ideal.ofBits_zero_f32]
  by_cases h : 0 < n <;> simp [h]

/-- The reference's result. -/
theorem reference_value : val_main_v30 (F := Ideal) X L
    = fun _ => Ideal.div (∑ k : Fin 128, twoPass 128 (lab L) (smp X) k) (present 128 (lab L)) := by
  funext i
  rw [val_main_v30_apply, val_main_v29_apply, val_main_v28_apply, val_main_cst_9_apply, val_main_cst_10_apply]
  show Ideal.div (Ideal.ofBits .f32 0x00000000#32 + _) (Ideal.ofBits .f32 0x00000000#32 + _) = _
  rw [Ideal.ofBits_zero_f32, zero_add, zero_add]
  refine congrArg₂ Ideal.div ((sum_positions _).trans (Finset.sum_congr rfl fun k _ => class_term X L k)) ?_
  exact (sum_positions _).trans (Finset.sum_congr rfl fun k _ => class_present L k)

end Cert.ReferenceIdeal.Wcss
-- ==== Proof.Wcss.Finite.lean ====
/-
  What the precondition says of a sample: it is a real number.
-/
module

public import proofs.«01_k».proof.Pre_samples_finite
public import Idealize.ShloMosaic.PureOps.Ideal.Laws
public import Idealize.ShloMosaic.Lib.ValueIdxCore
public import Idealize.ShloMosaic.Lib.WordCmp

@[expose] public section

noncomputable section

namespace Cert.Pre_samples_finite.Wcss

open Idealize.ShloMosaic Idealize.ShloMosaic.ValueIdx
open Cert.Pre_samples_finite

variable [Cert.Pre_samples_finite.Facts]

/-- The bound's pattern denotes the top. -/
theorem bound_bits : Ideal.ofBits .f32 0x7F800000#32 = (⊤ : EReal) := by
  simp [Ideal.ofBits, Ideal.ieee]

/-- An extended real whose magnitude is below the top is a real number. -/
theorem real_of_abs_lt (x : EReal) (h : max x (-x) < ⊤) : ∃ r : ℝ, x = r := by
  induction x using EReal.rec with
  | bot => simp at h
  | coe r => exact ⟨r, rfl⟩
  | top => simp at h

/-- Under the precondition every sample is a real number. -/
theorem sample_real (X : (⟨S320000x128, .f32⟩ : BufTy).Contents (Elt Ideal)) (L : (⟨S320000, .i32⟩ : BufTy).Contents (Elt Ideal))
    (h : Cert.Pre_samples_finite.fn (F := Ideal) X L = fun _ => 1#1) (j : S320000x128.Idx) : ∃ r : ℝ, X j = r := by
  refine real_of_abs_lt _ ?_
  have e : BitVec.ofBool (decide (max (X j) (-(X j)) < Ideal.ofBits .f32 0x7F800000#32)) = 1#1 := congrFun h j
  rw [WordCmp.ofBool_decide_eq_one_iff, bound_bits] at e
  exact e

end Cert.Pre_samples_finite.Wcss
-- ==== Proof.Wcss.Equation.lean ====
/-
  The equation: on samples that are real numbers, the kernel's loss is the reference's.
-/
module

public import proofs.«01_k».proof.Proof.Wcss.Finish
public import proofs.«01_k».proof.Proof.Wcss.Reference
public import proofs.«01_k».proof.Proof.Wcss.Finite

@[expose] public section

noncomputable section

namespace Cert.Wcss

open Idealize.ShloMosaic Idealize.ShloMosaic.TcCoe Idealize.ShloMosaic.ValueIdx Idealize.SL.Sem

/-- From memories that agree on the arguments, the samples finite, the reference's result is the kernel's loss. -/
theorem result_eq [Cert.Pre_samples_finite.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hx : Cert.Pre_samples_finite.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = fun _ => 1#1)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Value.res_main_v30 m' c = (fun _ => Cert.KernelIdeal.Wcss.loss m c) := by
  rw [Cert.ReferenceIdeal.Read.val_main_v30_eq, h0, h1]
  refine (Cert.ReferenceIdeal.Wcss.reference_value _ _).trans (funext fun _ => ?_)
  refine congrArg₂ Ideal.div (Finset.sum_congr rfl fun k _ => ?_) rfl
  exact (_root_.Wcss.onePass_eq_twoPass 128 _ _ (fun i d => Cert.Pre_samples_finite.Wcss.sample_real _ _ hx (ix2 i d)) k).symm

end Cert.Wcss
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_samples_finite
public import proofs.«01_k».proof.Proof.Wcss.Run
public import proofs.«01_k».proof.Proof.Wcss.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged, and has no counter that could end above zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun _ h => ⟨fun c => (h c).2, sem_eq_zero_of_no_sems rfl _⟩)
    (Cert.ReferenceIdeal.Value.run m g)

/-- The kernel and the reference end with the same loss when the samples are finite. -/
theorem same_loss : Cert.algebraic_KernelIdeal_ReferenceIdeal_pre_samples_finite (hKernelIdeal := Cert.KernelIdeal.Gen.facts)
    (hReferenceIdeal := Cert.ReferenceIdeal.Gen.facts) (hPre_samples_finite := Cert.Pre_samples_finite.Gen.facts) := by
  intro m g m' g' hpre hargs
  refine ⟨fun c _ => Cert.KernelIdeal.Wcss.loss m c, ?_, ?_⟩
  · exact (θ_run Cert.KernelIdeal.defs _ _).mono
      (fun _ h c => ⟨(h c).1.trans (Cert.KernelIdeal.Wcss.result_loss m g c), (h c).2⟩) (Cert.KernelIdeal.Wcss.run_result m g)
  · exact (θ_run Cert.ReferenceIdeal.defs _ _).mono
      (fun _ h c => ⟨(h c).1.trans (Cert.Wcss.result_eq m m' c (hpre c) (hargs c).1 (hargs c).2), (h c).2⟩)
      (Cert.ReferenceIdeal.Value.run m' g')

/-- Every claim. -/
theorem claim : Cert.Claim :=
  ⟨Cert.Kernel.Gen.facts, Cert.KernelIdeal.Gen.facts, Cert.ReferenceIdeal.Gen.facts, Cert.Pre_samples_finite.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    same_loss⟩

end Cert.Proof

end
